-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x4096 : Shape := ⟨3, ![2, 8192, 4096]⟩
abbrev S16384x4096 : Shape := ⟨2, ![16384, 4096]⟩
abbrev S512x4096 : Shape := ⟨2, ![512, 4096]⟩
abbrev S1x1 : Shape := ⟨2, ![1, 1]⟩
abbrev S1x512x4096 : Shape := ⟨3, ![1, 512, 4096]⟩
abbrev S1 : Shape := ⟨1, ![1]⟩
abbrev S1x1x1 : Shape := ⟨3, ![1, 1, 1]⟩

abbrev nBuf : Space → Nat
  | .hbm => 4
  | .vmem => 4
  | .smem => 1
  | _ => 0

abbrev bufTy : (tb : Table) → Fin (tcTables nBuf tb) → BufTy
  | .hbm, ⟨0, _⟩ => ⟨S2x8192x4096, .f32⟩
  | .hbm, ⟨1, _⟩ => ⟨S16384x4096, .f32⟩
  | .hbm, ⟨2, _⟩ => ⟨S16384x4096, .f32⟩
  | .hbm, ⟨3, _⟩ => ⟨S2x8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .smem, ⟨0, _⟩ => ⟨S1x1, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c32_i32_2 : BitVec 32 := 32#32
  let v6 : BitVec 1 := Scalar.cmpi .sge arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x8192x4096 : Shape := ⟨3, ![2, 8192, 4096]⟩
abbrev S67108864 : Shape := ⟨1, ![67108864]⟩
abbrev S_ : Shape := ⟨0, ![]⟩
abbrev S64 : Shape := ⟨1, ![64]⟩
abbrev S1 : Shape := ⟨1, ![1]⟩
abbrev S65 : Shape := ⟨1, ![65]⟩
abbrev S1x65 : Shape := ⟨2, ![1, 65]⟩
abbrev S67108864x1 : Shape := ⟨2, ![67108864, 1]⟩
abbrev S67108864x65 : Shape := ⟨2, ![67108864, 65]⟩

abbrev nBuf : Space → Nat
  | .hbm => 127
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S67108864, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S1, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1, .f32⟩
  | .hbm, ⟨36, _⟩ => ⟨S65, .f32⟩
  | .hbm, ⟨37, _⟩ => ⟨S1x65, .f32⟩
  | .hbm, ⟨38, _⟩ => ⟨S67108864x1, .f32⟩
  | .hbm, ⟨39, _⟩ => ⟨S67108864x65, .f32⟩
  | .hbm, ⟨40, _⟩ => ⟨S67108864x65, .f32⟩
  | .hbm, ⟨41, _⟩ => ⟨S67108864x65, .i1⟩
  | .hbm, ⟨42, _⟩ => ⟨S67108864x65, .i32⟩
  | .hbm, ⟨43, _⟩ => ⟨S_, .i32⟩
  | .hbm, ⟨44, _⟩ => ⟨S67108864, .i32⟩
  | .hbm, ⟨45, _⟩ => ⟨S67108864, .f32⟩
  | .hbm, ⟨46, _⟩ => ⟨S67108864, .i1⟩
  | .hbm, ⟨47, _⟩ => ⟨S_, .i32⟩
  | .hbm, ⟨48, _⟩ => ⟨S_, .i32⟩
  | .hbm, ⟨49, _⟩ => ⟨S67108864, .i32⟩
  | .hbm, ⟨50, _⟩ => ⟨S67108864, .i32⟩
  | .hbm, ⟨51, _⟩ => ⟨S_, .f32⟩
  | .hbm, ⟨52, _⟩ => ⟨S65, .f32⟩
  | .hbm, ⟨53, _⟩ => ⟨S_, .i32⟩
  | .hbm, ⟨54, _⟩ => ⟨S67108864, .i32⟩
  | .hbm, ⟨55, _⟩ => ⟨S67108864, .i1⟩
  | .hbm, ⟨56, _⟩ => ⟨S_, .i32⟩
  | .hbm, ⟨57, _⟩ => ⟨S67108864, .i32⟩
  | .hbm, ⟨58, _⟩ => ⟨S67108864, .i32⟩
  | .hbm, ⟨59, _⟩ => ⟨S67108864, .i32⟩
  | .hbm, ⟨60, _⟩ => ⟨S67108864x1, .i32⟩
  | .hbm, ⟨61, _⟩ => ⟨S_, .f32⟩
  | .hbm, ⟨62, _⟩ => ⟨S67108864, .f32⟩
  | .hbm, ⟨63, _⟩ => ⟨S65, .f32⟩
  | .hbm, ⟨64, _⟩ => ⟨S64, .f32⟩
  | .hbm, ⟨65, _⟩ => ⟨S_, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S2x8192x4096, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S2x8192x4096, .f32⟩
  | .hbm, ⟨111, _⟩ => ⟨S2x8192x4096, .f32⟩
  | .hbm, ⟨112, _⟩ => ⟨S2x8192x4096, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S2x8192x4096, .f32⟩
  | .hbm, ⟨117, _⟩ => ⟨S2x8192x4096, .f32⟩
  | .hbm, ⟨118, _⟩ => ⟨S2x8192x4096, .f32⟩
  | .hbm, ⟨119, _⟩ => ⟨S2x8192x4096, .f32⟩
  | .hbm, ⟨120, _⟩ => ⟨S2x8192x4096, .f32⟩
  | .hbm, ⟨121, _⟩ => ⟨S2x8192x4096, .f32⟩
  | .hbm, ⟨122, _⟩ => ⟨S_, .f32⟩
  | .hbm, ⟨123, _⟩ => ⟨S_, .i1⟩
  | .hbm, ⟨124, _⟩ => ⟨S2x8192x4096, .f32⟩
  | .hbm, ⟨125, _⟩ => ⟨S2x8192x4096, .f32⟩
  | .hbm, ⟨126, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_cst_4 : Ref sig .tc := ⟨.hbm, 15, rfl⟩
abbrev main_v9 : Ref sig .tc := ⟨.hbm, 16, rfl⟩
abbrev main_v10 : Ref sig .tc := ⟨.hbm, 17, rfl⟩
abbrev main_call2_v0 : Ref sig .tc := ⟨.hbm, 18, rfl⟩
abbrev main_call2_cst : Ref sig .tc := ⟨.hbm, 19, rfl⟩
abbrev main_call2_v1 : Ref sig .tc := ⟨.hbm, 20, rfl⟩
abbrev main_call2_v2 : Ref sig .tc := ⟨.hbm, 21, rfl⟩
abbrev main_call2_cst_0 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_cst_1 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_v12 : Ref sig .tc := ⟨.hbm, 33, rfl⟩
abbrev main_call2_v13 : Ref sig .tc := ⟨.hbm, 34, rfl⟩
abbrev main_call2_v14 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_call3_v0 : Ref sig .tc := ⟨.hbm, 48, rfl⟩
abbrev main_call3_v1 : Ref sig .tc := ⟨.hbm, 49, rfl⟩
abbrev main_v21 : Ref sig .tc := ⟨.hbm, 50, rfl⟩
abbrev main_cst_6 : Ref sig .tc := ⟨.hbm, 51, rfl⟩
abbrev main_v22 : Ref sig .tc := ⟨.hbm, 52, rfl⟩
abbrev main_c_7 : Ref sig .tc := ⟨.hbm, 53, rfl⟩
abbrev main_v23 : Ref sig .tc := ⟨.hbm, 54, rfl⟩
abbrev main_v24 : Ref sig .tc := ⟨.hbm, 55, rfl⟩
abbrev main_c_8 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_9 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_10 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_11 : Ref sig .tc := ⟨.hbm, 69, rfl⟩
abbrev main_call4_v0 : Ref sig .tc := ⟨.hbm, 70, rfl⟩
abbrev main_call4_v1 : Ref sig .tc := ⟨.hbm, 71, rfl⟩
abbrev main_v35 : Ref sig .tc := ⟨.hbm, 72, rfl⟩
abbrev main_v36 : Ref sig .tc := ⟨.hbm, 73, rfl⟩
abbrev main_cst_12 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_13 : Ref sig .tc := ⟨.hbm, 78, rfl⟩
abbrev main_v40 : Ref sig .tc := ⟨.hbm, 79, rfl⟩
abbrev main_v41 : Ref sig .tc := ⟨.hbm, 80, rfl⟩
abbrev main_cst_14 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_cst_16 : Ref sig .tc := ⟨.hbm, 85, rfl⟩
abbrev main_cst_17 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_v44 : Ref sig .tc := ⟨.hbm, 90, rfl⟩
abbrev main_cst_18 : Ref sig .tc := ⟨.hbm, 91, rfl⟩
abbrev main_v45 : Ref sig .tc := ⟨.hbm, 92, rfl⟩
abbrev main_cst_19 : Ref sig .tc := ⟨.hbm, 93, rfl⟩
abbrev main_v46 : Ref sig .tc := ⟨.hbm, 94, rfl⟩
abbrev main_cst_20 : Ref sig .tc := ⟨.hbm, 95, rfl⟩
abbrev main_v47 : Ref sig .tc := ⟨.hbm, 96, rfl⟩
abbrev main_cst_21 : Ref sig .tc := ⟨.hbm, 97, rfl⟩
abbrev main_v48 : Ref sig .tc := ⟨.hbm, 98, rfl⟩
abbrev main_v49 : Ref sig .tc := ⟨.hbm, 99, rfl⟩
abbrev main_cst_22 : Ref sig .tc := ⟨.hbm, 100, rfl⟩
abbrev main_v50 : Ref sig .tc := ⟨.hbm, 101, rfl⟩
abbrev main_cst_23 : Ref sig .tc := ⟨.hbm, 102, rfl⟩
abbrev main_v51 : Ref sig .tc := ⟨.hbm, 103, rfl⟩
abbrev main_v52 : Ref sig .tc := ⟨.hbm, 104, rfl⟩
abbrev main_cst_24 : Ref sig .tc := ⟨.hbm, 105, rfl⟩
abbrev main_v53 : Ref sig .tc := ⟨.hbm, 106, rfl⟩
abbrev main_cst_25 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_26 : Ref sig .tc := ⟨.hbm, 114, rfl⟩
abbrev main_v60 : Ref sig .tc := ⟨.hbm, 115, rfl⟩
abbrev main_call7_v0 : Ref sig .tc := ⟨.hbm, 116, rfl⟩
abbrev main_call7_v1 : Ref sig .tc := ⟨.hbm, 117, rfl⟩
abbrev main_call7_v2 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_27 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩

abbrev nD : Nat := 1
abbrev τ : Topo := Topo.v7x

variable {F : FTy → Type} [FloatOps F]
-- ==== Proof.Block.lean ====
/- What one grid point of the kernel computes. The kernel walks its 32 row blocks twice. In the first sweep a point leaves in the
   scratch cell the larger of what the cell held and the greatest magnitude in the point's block (the first point starts the cell
   at zero). In the second sweep a point writes the quantised block and leaves the cell alone. -/
module

public import proofs.«01_k».proof.Proof.Gen.KernelIdeal.Frame
public import Idealize.ShloMosaic.Lib.Pipeline.Value

@[expose] public section

set_option maxRecDepth 16384

noncomputable section

namespace Cert.KernelIdeal.Block

open Idealize.ShloMosaic Idealize.ShloMosaic.TcCoe Idealize.SL.Sem
open Cert.KernelIdeal Cert.KernelIdeal.Gen

variable {F : FTy → Type} [FloatOps F]

/-- The offsets the body spells out are the zero offsets. -/
theorem zeros : (![0, 0] : Fin 2 → Nat) = fun _ => 0 := funext fun a => by fin_cases a <;> rfl

/-- The scratch cell's one index. -/
abbrev cell : S1x1.Idx := Shape.Idx.first (by rw [numel1_S1x1]; exact Nat.one_pos)

/-- First sweep, first point: the cell ends at the larger of zero and the block's greatest magnitude. -/
theorem scratch_first (c : Dev nD) (i : grid0.Coords) (a1 : Memref sig .tc .vmem S512x4096 .f32) (h1 : a1.IsWhole)
    (a2 : Memref sig .tc .vmem S512x4096 .f32) (h2 : a2.IsWhole) (a3 : Memref sig .tc .smem S1x1 .f32) (h3 : a3.IsWhole)
    (hc0 : cond0_0 i) (hc1 : cond0_1 i) (hc2 : ¬cond0_2 i) (x : Vec F S512x4096 .f32) :
    sout0_A_0 c i a1 h1 a2 h2 a3 h3 hc0 hc1 hc2 x = fun _ => k0_pay1 (Scalar.ofBits .f32 0x00000000#32) x := by
  unfold sout0_A_0
  rw [View.read_writes_eq_canon _ _ _ (scover0_A_0 c i a1 h1 a2 h2 a3 h3 hc0 hc1 hc2 x)]
  unfold kernelRun0_A
  dsimp only
  sl_unfold_words
  rw [View.canon_cons_unit_zero (S := S1x1) zeros]
  simp only [View.readAt_eq_ld, h1.read_unread, View.ld_unit_zero (S := S512x4096) zeros]
  rfl

/-- First sweep, a later point: the cell ends at the larger of what it held and the block's greatest magnitude. -/
theorem scratch_next (c : Dev nD) (i : grid0.Coords) (a1 : Memref sig .tc .vmem S512x4096 .f32) (h1 : a1.IsWhole)
    (a2 : Memref sig .tc .vmem S512x4096 .f32) (h2 : a2.IsWhole) (a3 : Memref sig .tc .smem S1x1 .f32) (h3 : a3.IsWhole)
    (hc0 : ¬cond0_0 i) (hc1 : cond0_1 i) (hc2 : ¬cond0_2 i) (x : Vec F S512x4096 .f32) (s : Vec F S1x1 .f32) :
    sout0_B_0 c i a1 h1 a2 h2 a3 h3 hc0 hc1 hc2 x s = fun _ => k0_pay1 (s cell) x := by
  unfold sout0_B_0
  rw [View.read_writes_eq_canon _ _ _ (scover0_B_0 c i a1 h1 a2 h2 a3 h3 hc0 hc1 hc2 x s)]
  unfold kernelRun0_B
  dsimp only
  sl_unfold_words
  rw [View.canon_unit_zero (S := S1x1) zeros]
  simp only [View.readAt_eq_ld, h1.read_unread, h3.read_unread, View.ld_unit_zero (S := S512x4096) zeros]
  exact congrArg (fun v : Elt F .f32 => (fun _ => k0_pay1 v x : Vec F S1x1 .f32)) (congrFun (View.ld_unit_zero (S := S1x1) zeros inb_S1x1_S1x1_0_0 s) _)

/-- Second sweep: the output block is the quantised input block, the scale taken from the cell. -/
theorem output_block (c : Dev nD) (i : grid0.Coords) (a1 : Memref sig .tc .vmem S512x4096 .f32) (h1 : a1.IsWhole)
    (a2 : Memref sig .tc .vmem S512x4096 .f32) (h2 : a2.IsWhole) (a3 : Memref sig .tc .smem S1x1 .f32) (h3 : a3.IsWhole)
    (hc0 : ¬cond0_0 i) (hc1 : ¬cond0_1 i) (hc2 : cond0_2 i) (x : Vec F S512x4096 .f32) (s : Vec F S1x1 .f32) :
    out0_C_1 c i a1 h1 a2 h2 a3 h3 hc0 hc1 hc2 x s = k0_pay2 x (s cell) := by
  unfold out0_C_1
  rw [View.read_writes_eq_canon _ _ _ (cover0_C_1 c i a1 h1 a2 h2 a3 h3 hc0 hc1 hc2 x s)]
  unfold kernelRun0_C
  dsimp only
  sl_unfold_words
  rw [View.canon_unit_zero (S := S512x4096) zeros]
  simp only [View.readAt_eq_ld, h1.read_unread, h3.read_unread, View.ld_unit_zero (S := S512x4096) zeros]
  exact congrArg (fun v : Elt F .f32 => k0_pay2 x v) (congrFun (View.ld_unit_zero (S := S1x1) zeros inb_S1x1_S1x1_0_0 s) _)

end Cert.KernelIdeal.Block

end
-- ==== Proof.Maximum.lean ====
/- The kernel's scratch cell. After the first sweep the cell holds the greatest magnitude in the array. A number is pinned by its upper bounds,
   so the value is stated through them: a bound lies above the cell exactly when it lies above the magnitude of every entry the
   sweep has met. -/
module

public import proofs.«01_k».proof.Proof.Block
public import Idealize.ShloMosaic.PureOps.Reduce
public import Idealize.ShloMosaic.PureOps.Ideal.Laws

@[expose] public section

set_option maxRecDepth 16384

noncomputable section

namespace Cert.KernelIdeal.Maximum

open Idealize.ShloMosaic Idealize.ShloMosaic.TcCoe Idealize.SL.Sem
open Cert.KernelIdeal Cert.KernelIdeal.Gen Cert.KernelIdeal.Block

/-- A property of every entry of a reshaped array is that property of every entry of the array. -/
theorem forall_shapeCast {s t : Shape} {α : Type} (x : s.Idx → α) (h : s.ShapeCasts t) (P : α → Prop) :
    (∀ j, P (shapeCast t x h j)) ↔ ∀ i, P (x i) := by
  refine ⟨fun H i => ?_, fun H j => H _⟩
  have e := H ((Shape.reshapeEquiv h).symm i)
  unfold shapeCast at e
  rwa [Equiv.apply_symm_apply] at e

/-- The word `0xFF800000` denotes minus infinity. -/
theorem word_neg_inf : Ideal.ofBits .f32 0xFF800000#32 = ⊥ := by
  simp [Ideal.ofBits, Ideal.ieee]

/-- The magnitude of an extended real is not negative. -/
theorem zero_le_magnitude (x : EReal) : 0 ≤ max x (-x) := by
  rcases le_total 0 x with h | h
  · exact h.trans (le_max_left _ _)
  · exact (EReal.neg_nonneg.mpr h).trans (le_max_right _ _)

/-- Reducing a whole array by maximum, starting from minus infinity, to a shape whose one entry collects everything: a bound lies
    above the result exactly when it lies above every entry. -/
theorem reduce_le {s t : Shape} {axes : List (Fin s.rank)} (src : FVec Ideal s .f32) (h : s.Reduces axes t)
    (hφ : FKind.Formats .f32) (hacc : (0xFF800000#32 : BitVec 32) = FKind.maximumf.neutral .f32 hφ)
    (ht : ∀ a, t.size a = 1) (j : t.Idx) (b : EReal) :
    multiReduction (F := Ideal) .maximumf axes t src 0xFF800000#32 h hφ hacc j ≤ b ↔ ∀ i, src i ≤ b := by
  rw [multiReduction_maximumf_eq_fold]
  have hall : (Finset.univ.filter fun i => h.drop i = j) = Finset.univ := Finset.filter_true_of_mem fun i _ =>
    funext fun a => Fin.ext (by
      have h1 := (h.drop i a).isLt
      have h2 := (j a).isLt
      have h3 := ht a
      omega)
  rw [hall]
  refine Finset.fold_max_le b |>.trans ?_
  rw [Ideal.ofBits_def, word_neg_inf]
  simp

/-- Reshaping a one-entry array and extracting its entry reads that array at one index. -/
theorem extract_cast {α : Type} (w : S1.Idx → α) :
    extractAt ![0, 0, 0] (shapeCast S1x1x1 w shapeCasts_S1_S1x1x1) inpos_S1x1x1_p0_0_0
      = w (Shape.reshapeEquiv shapeCasts_S1_S1x1x1 fun a => ⟨(![0, 0, 0] : Fin 3 → Nat) a, inpos_S1x1x1_p0_0_0 a⟩) := rfl

/-- A bound lies above the value a first-sweep point stores exactly when it lies above the old cell and above the magnitude of
    every entry of the block. -/
theorem step_le (v : EReal) (x : FVec Ideal S512x4096 .f32) (b : EReal) :
    k0_pay1 (F := Ideal) v x ≤ b ↔ v ≤ b ∧ ∀ i, max (x i) (-(x i)) ≤ b := by
  unfold k0_pay1
  dsimp only
  rw [Ideal.scalar_maximumf_def, max_le_iff]
  refine and_congr_right fun _ => ?_
  rw [extract_cast]
  refine (reduce_le _ reduces_S1x512x4096_S1 _ _ (by decide) _ b).trans ?_
  refine (forall_shapeCast _ shapeCasts_S512x4096_S1x512x4096 (· ≤ b)).trans ?_
  exact forall_shapeCast x shapeCasts_S512x4096_S512x4096 fun z => max z (-z) ≤ b

end Cert.KernelIdeal.Maximum

end
-- ==== Proof.Blocks.lean ====
/- Where the blocks lie. The array the kernel works on has 16384 rows of 4096 entries; a block is 512 full rows. Point `t` reads block
   `t % 32`; a second-sweep point writes block `t - 32`, the block it has read. The 32 blocks read by the first sweep make up the
   array, and so do the 32 blocks written by the second. -/
module

public import proofs.«01_k».proof.Proof.Gen.KernelIdeal.Frame
public import Idealize.ShloMosaic.Lib.Pipeline.Value

@[expose] public section

set_option maxRecDepth 16384

noncomputable section

namespace Cert.KernelIdeal.Blocks

open Idealize.ShloMosaic Idealize.ShloMosaic.TcCoe Idealize.SL.Sem
open Cert.KernelIdeal Cert.KernelIdeal.Gen
open Idealize.ShloMosaic.Pipeline (Dat)

variable {F : FTy → Type} [FloatOps F]

/-- The input window's block at point `t`: it starts at row `512 · (t % 32)` and column 0, and has 512 rows by 4096 columns. -/
theorem in_block : ∀ t : Fin cfg0.N, win0_0.index t 0 * win0_0.size 0 = t.val % 32 * 512 ∧ win0_0.index t 1 * win0_0.size 1 = 0
    ∧ win0_0.xsize (grid0.coords t) 0 = 512 ∧ win0_0.xsize (grid0.coords t) 1 = 4096 :=
  (by decide +kernel : ∀ t : Fin grid0.N, win0_0.index t 0 * win0_0.size 0 = t.val % 32 * 512 ∧ win0_0.index t 1 * win0_0.size 1 = 0
    ∧ win0_0.xsize (grid0.coords t) 0 = 512 ∧ win0_0.xsize (grid0.coords t) 1 = 4096)

/-- The output window's block at point `t`: it starts at row `512 · (t - 32)` and column 0, and has 512 rows by 4096 columns. -/
theorem out_block : ∀ t : Fin cfg0.N, win0_1.index t 0 * win0_1.size 0 = (t.val - 32) * 512 ∧ win0_1.index t 1 * win0_1.size 1 = 0
    ∧ win0_1.xsize (grid0.coords t) 0 = 512 ∧ win0_1.xsize (grid0.coords t) 1 = 4096 :=
  (by decide +kernel : ∀ t : Fin grid0.N, win0_1.index t 0 * win0_1.size 0 = (t.val - 32) * 512 ∧ win0_1.index t 1 * win0_1.size 1 = 0
    ∧ win0_1.xsize (grid0.coords t) 0 = 512 ∧ win0_1.xsize (grid0.coords t) 1 = 4096)

/-- The output block is written back exactly at the points of the second sweep. -/
theorem out_flush : ∀ t : Fin cfg0.N, (cfg0.win 1).flush t = true ↔ 32 ≤ t.val :=
  (by decide +kernel : ∀ t : Fin grid0.N, win0_1.flush t = true ↔ 32 ≤ t.val)

/-- An entry lies in the input block of point `t` when its row lies in the 512 rows from `512 · (t % 32)`. -/
theorem mem_in (t : Fin cfg0.N) (i : S16384x4096.Idx) (h : t.val % 32 * 512 ≤ (i 0 : Nat) ∧ (i 0 : Nat) < t.val % 32 * 512 + 512) :
    i ∈ ((cfg0.win 0).blk t).view.set := by
  show i ∈ ((View.whole main_v0).slice (win0_0.rect t)).set
  rw [View.set_slice_whole, Rect.mem_set_unit]
  obtain ⟨e0, e1, e2, e3⟩ := in_block t
  have h1 : (i 1 : Nat) < 4096 := (i 1).isLt
  intro a
  match a with
  | ⟨0, _⟩ =>
    show win0_0.index t 0 * win0_0.size 0 ≤ (i 0 : Nat) ∧ (i 0 : Nat) < win0_0.index t 0 * win0_0.size 0 + win0_0.xsize (grid0.coords t) 0
    rw [e0, e2]; exact h
  | ⟨1, _⟩ =>
    show win0_0.index t 1 * win0_0.size 1 ≤ (i 1 : Nat) ∧ (i 1 : Nat) < win0_0.index t 1 * win0_0.size 1 + win0_0.xsize (grid0.coords t) 1
    rw [e1, e3]; omega

/-- An entry lies in the output block of point `t` when its row lies in the 512 rows from `512 · (t - 32)`. -/
theorem mem_out (t : Fin cfg0.N) (i : S16384x4096.Idx)
    (h : (t.val - 32) * 512 ≤ (i 0 : Nat) ∧ (i 0 : Nat) < (t.val - 32) * 512 + 512) :
    i ∈ ((cfg0.win 1).blk t).view.set := by
  show i ∈ ((View.whole main_v1).slice (win0_1.rect t)).set
  rw [View.set_slice_whole, Rect.mem_set_unit]
  obtain ⟨e0, e1, e2, e3⟩ := out_block t
  have h1 : (i 1 : Nat) < 4096 := (i 1).isLt
  intro a
  match a with
  | ⟨0, _⟩ =>
    show win0_1.index t 0 * win0_1.size 0 ≤ (i 0 : Nat) ∧ (i 0 : Nat) < win0_1.index t 0 * win0_1.size 0 + win0_1.xsize (grid0.coords t) 0
    rw [e0, e2]; exact h
  | ⟨1, _⟩ =>
    show win0_1.index t 1 * win0_1.size 1 ≤ (i 1 : Nat) ∧ (i 1 : Nat) < win0_1.index t 1 * win0_1.size 1 + win0_1.xsize (grid0.coords t) 1
    rw [e1, e3]; omega

/-- Every entry of the array lies in the input block of some first-sweep point. -/
theorem in_cover (i : S16384x4096.Idx) : ∃ t : Fin cfg0.N, t.val ≤ 31 ∧ i ∈ ((cfg0.win 0).blk t).view.set := by
  have h0 : (i 0 : Nat) < 16384 := (i 0).isLt
  have hN : cfg0.N = 64 := N_0
  refine ⟨⟨(i 0 : Nat) / 512, by omega⟩, by dsimp only; omega, mem_in _ i ?_⟩
  dsimp only
  omega

/-- Every entry of the array lies in the block that some second-sweep point writes back. -/
theorem out_cover (i : S16384x4096.Idx) :
    ∃ t : Fin cfg0.N, (cfg0.win 1).flush t = true ∧ i ∈ ((cfg0.win 1).blk t).view.set := by
  have h0 : (i 0 : Nat) < 16384 := (i 0).isLt
  have hN : cfg0.N = 64 := N_0
  refine ⟨⟨(i 0 : Nat) / 512 + 32, by omega⟩, (out_flush _).mpr (by dsimp only; omega), mem_out _ i ?_⟩
  dsimp only
  omega

/-- At a second-sweep point the input block and the output block sit at the same place of the array: the entry of the array under an
    index of the one is the entry under that index of the other. -/
theorem same_place (t : Fin cfg0.N) (ht : 32 ≤ t.val) (y : S512x4096.Idx) :
    (((cfg0.win 0).blk t).view.emb y : S16384x4096.Idx) = ((cfg0.win 1).blk t).view.emb y := by
  have hN : t.val < 64 := lt_of_lt_of_eq t.isLt N_0
  obtain ⟨e0, e1, -, -⟩ := in_block t
  obtain ⟨f0, f1, -, -⟩ := out_block t
  show (win0_0.rect t).emb y = (win0_1.rect t).emb y
  funext a
  apply Fin.ext
  rw [Pipeline.Window.rect_emb_val win0_0 t y a rfl, Pipeline.Window.rect_emb_val win0_1 t y a rfl]
  match a with
  | ⟨0, _⟩ =>
    have h : win0_0.index t 0 * win0_0.size 0 = win0_1.index t 0 * win0_1.size 0 := by rw [e0, f0]; omega
    exact congrArg (· + (y 0 : Nat)) h
  | ⟨1, _⟩ =>
    have h : win0_0.index t 1 * win0_0.size 1 = win0_1.index t 1 * win0_1.size 1 := by rw [e1, f1]
    exact congrArg (· + (y 1 : Nat)) h

end Cert.KernelIdeal.Blocks

end
-- ==== Proof.Sweep.lean ====
/- The first sweep as a whole: a bound lies above the scratch cell after the sweep exactly when it lies above the magnitude of every
   entry of the array; and the second sweep leaves the cell alone. -/
module

public import proofs.«01_k».proof.Proof.Maximum
public import proofs.«01_k».proof.Proof.Blocks

@[expose] public section

set_option maxRecDepth 16384

noncomputable section

namespace Cert.KernelIdeal.Sweep

open Idealize.ShloMosaic Idealize.ShloMosaic.TcCoe Idealize.SL.Sem
open Cert.KernelIdeal Cert.KernelIdeal.Gen Cert.KernelIdeal.Block Cert.KernelIdeal.Maximum

variable (m : (ℓ : Loc nD τ sig) → Buf (Elt Ideal) ℓ)

/-- The point count spelt out. -/
theorem count : cfg0.N = 64 := N_0

/-- The input block at a point, as an array of extended reals. -/
abbrev blockIn (c : Dev nD) (t : Fin cfg0.N) : S512x4096.Idx → EReal := iblk (F := Ideal) m c 0 t

/-- The cell after the first point. -/
theorem cell_zero (c : Dev nD) (h : 0 < cfg0.N) :
    (outsAt0 (F := Ideal) m c 0 h).2 cell = k0_pay1 (F := Ideal) (0 : EReal) (blockIn m c ⟨0, h⟩) := by
  have e := outsAt0_A (F := Ideal) m c ⟨0, h⟩ rfl (by dsimp only; omega) (by dsimp only; omega)
  dsimp only at e
  rw [e, scratch_first]
  exact congrArg (fun z : EReal => k0_pay1 (F := Ideal) z (blockIn m c ⟨0, h⟩)) Ideal.ofBits_zero_f32

/-- The cell after a later point of the first sweep, from the cell before it. -/
theorem cell_succ (c : Dev nD) (n : Nat) (h : n + 1 < cfg0.N) (h32 : n + 1 < 32) :
    (outsAt0 (F := Ideal) m c (n + 1) h).2 cell
      = k0_pay1 (F := Ideal) ((outsAt0 (F := Ideal) m c n (Nat.lt_of_succ_lt h)).2 cell) (blockIn m c ⟨n + 1, h⟩) := by
  have e := outsAt0_B (F := Ideal) m c ⟨n + 1, h⟩ (by dsimp only; omega) (by dsimp only; omega) (by dsimp only; omega)
  dsimp only at e
  rw [e, scratch_next]
  rfl

/-- After point `n` of the first sweep a bound lies above the cell exactly when it is not negative and lies above the magnitude of
    every entry of every block met so far. -/
theorem cell_le (c : Dev nD) : ∀ (n : Nat) (h : n < cfg0.N), n < 32 → ∀ b : EReal,
    (outsAt0 (F := Ideal) m c n h).2 cell ≤ b
      ↔ 0 ≤ b ∧ ∀ t : Fin cfg0.N, t.val ≤ n → ∀ y : S512x4096.Idx, max (blockIn m c t y) (-(blockIn m c t y)) ≤ b
  | 0, h, _, b => by
    rw [cell_zero, step_le]
    refine and_congr_right fun _ => ⟨fun H t ht y => ?_, fun H y => H ⟨0, h⟩ (le_refl _) y⟩
    obtain rfl : t = ⟨0, h⟩ := Fin.ext (by dsimp only; omega)
    exact H y
  | n + 1, h, h32, b => by
    rw [cell_succ m c n h h32, step_le, cell_le c n _ (by omega) b]
    refine ⟨fun ⟨⟨h0, H⟩, H'⟩ => ⟨h0, fun t ht y => ?_⟩, fun ⟨h0, H⟩ => ⟨⟨h0, fun t ht y => H t (by omega) y⟩, fun y => H ⟨n + 1, h⟩ (le_refl _) y⟩⟩
    by_cases e : t.val ≤ n
    · exact H t e y
    · obtain rfl : t = ⟨n + 1, h⟩ := Fin.ext (by dsimp only; omega)
      exact H' y

/-- A second-sweep point finds the cell as the first sweep left it. -/
theorem cell_kept (c : Dev nD) : ∀ (n : Nat) (h : n < cfg0.N) (h31 : 31 ≤ n),
    (outsAt0 (F := Ideal) m c n h).2 = (outsAt0 (F := Ideal) m c 31 (by rw [count]; omega)).2
  | 0, _, h31 => by omega
  | n + 1, h, h31 => by
    by_cases e : n = 30
    · subst e; rfl
    · have hN := count
      have e' := outsAt0_C (F := Ideal) m c ⟨n + 1, h⟩ (by dsimp only; omega) (by dsimp only; omega) (by dsimp only; omega)
      dsimp only at e'
      rw [e']
      exact cell_kept c n (Nat.lt_of_succ_lt h) (by omega)

/-- The array the kernel works on: the argument with its rows stacked. -/
abbrev rows (c : Dev nD) : S16384x4096.Idx → EReal := V m c main_v0

/-- What the cell holds through the second sweep. -/
def greatest (c : Dev nD) : EReal := (outsAt0 (F := Ideal) m c 31 (by rw [count]; omega)).2 cell

/-- THE CELL. A bound lies above the cell after the first sweep exactly when it lies above the magnitude of every entry of the
    array. -/
theorem greatest_le (c : Dev nD) (b : EReal) : greatest m c ≤ b ↔ ∀ i, max (rows m c i) (-(rows m c i)) ≤ b := by
  unfold greatest
  rw [cell_le m c 31 _ (by omega) b]
  constructor
  · rintro ⟨-, H⟩ i
    obtain ⟨t, ht, hi⟩ := Blocks.in_cover i
    obtain ⟨y, hy⟩ := View.exists_emb_of_mem_set _ hi
    have e := H t ht y
    rw [← hy]
    exact e
  · intro H
    refine ⟨(zero_le_magnitude _).trans (H fun a => ⟨0, by fin_cases a <;> decide⟩), fun t _ y => ?_⟩
    exact H _

end Cert.KernelIdeal.Sweep

end
-- ==== Proof.Levels.lean ====
/- The reference's bit count, on extended reals. The reference measures the entropy of a histogram of 64 probabilities, each
   clipped below at a small positive number; divides it by 100 and by 6; clips the quotient to the interval from 0 to 1; and takes
   the whole part of about 7.92 + 0.01 · (4 + 12 · quotient). The kernel uses 64 levels on each side of zero without looking at any
   histogram. This module shows that the two agree: whatever the 64 probabilities are, infinite ones included, half of two to the
   power of that bit count is 64. -/
module

public import Idealize.ShloMosaic.PureOps.Ideal.Laws

@[expose] public section

noncomputable section

namespace Cert.Levels

open Idealize.ShloMosaic
open scoped BigOperators

/-! ## The constants the reference prints -/

/-- The word `0x3F800000` denotes 1. -/
theorem word_one : Ideal.ofBits .f32 0x3F800000#32 = ((1 : ℝ) : EReal) := by
  simp [Ideal.ofBits, Ideal.ieee, -EReal.coe_mul]; norm_num
/-- The word `0x40000000` denotes 2. -/
theorem word_two : Ideal.ofBits .f32 0x40000000#32 = ((2 : ℝ) : EReal) := by
  simp [Ideal.ofBits, Ideal.ieee, -EReal.coe_mul]; norm_num
/-- The word `0x40800000` denotes 4. -/
theorem word_four : Ideal.ofBits .f32 0x40800000#32 = ((4 : ℝ) : EReal) := by
  simp [Ideal.ofBits, Ideal.ieee, -EReal.coe_mul]; norm_num
/-- The word `0x40C00000` denotes 6. -/
theorem word_six : Ideal.ofBits .f32 0x40C00000#32 = ((6 : ℝ) : EReal) := by
  simp [Ideal.ofBits, Ideal.ieee, -EReal.coe_mul]; norm_num
/-- The word `0x41400000` denotes 12. -/
theorem word_twelve : Ideal.ofBits .f32 0x41400000#32 = ((12 : ℝ) : EReal) := by
  simp [Ideal.ofBits, Ideal.ieee, -EReal.coe_mul]; norm_num
/-- The word `0x42C80000` denotes 100. -/
theorem word_hundred : Ideal.ofBits .f32 0x42C80000#32 = ((100 : ℝ) : EReal) := by
  simp [Ideal.ofBits, Ideal.ieee, -EReal.coe_mul]; norm_num
/-- The word `0x427C0000` denotes 63. -/
theorem word_top : Ideal.ofBits .f32 0x427C0000#32 = ((63 : ℝ) : EReal) := by
  simp [Ideal.ofBits, Ideal.ieee, -EReal.coe_mul]; norm_num
/-- The word `0xC2800000` denotes −64. -/
theorem word_bottom : Ideal.ofBits .f32 0xC2800000#32 = ((-64 : ℝ) : EReal) := by
  simp [Ideal.ofBits, Ideal.ieee, -EReal.coe_mul, -EReal.coe_neg]; norm_num
/-- The word `0x40FD70A4` (the sum 7.92 as f32 holds it) denotes 16609444 / 2²¹. -/
theorem word_base : Ideal.ofBits .f32 0x40FD70A4#32 = ((16609444 / 2097152 : ℝ) : EReal) := by
  simp [Ideal.ofBits, Ideal.ieee, -EReal.coe_mul]; norm_num
/-- The word `0x3C23D70A` (the weight 0.01 as f32 holds it) denotes 10737418 / 2³⁰. -/
theorem word_weight : Ideal.ofBits .f32 0x3C23D70A#32 = ((10737418 / 1073741824 : ℝ) : EReal) := by
  simp [Ideal.ofBits, Ideal.ieee, -EReal.coe_mul]; norm_num
/-- The word `0x3FB8AA3B` (the reciprocal of the natural logarithm of 2 as f32 holds it) denotes 12102203 / 2²³. -/
theorem word_invLn2 : Ideal.ofBits .f32 0x3FB8AA3B#32 = ((12102203 / 8388608 : ℝ) : EReal) := by
  simp [Ideal.ofBits, Ideal.ieee, -EReal.coe_mul]; norm_num
/-- The word `0x322BCC77` (the clip 10⁻⁸ as f32 holds it) denotes 11258999 / 2⁵⁰. -/
theorem word_clip : Ideal.ofBits .f32 0x322BCC77#32 = ((11258999 / 1125899906842624 : ℝ) : EReal) := by
  simp [Ideal.ofBits, Ideal.ieee, -EReal.coe_mul]; norm_num

/-! ## The entropy is at most 128 -/

/-- One term `p · (log p · κ)` of the entropy's sum is at least −2 when `p` is at least some positive number and `κ` lies strictly
    above 0 and at most at 2; an infinite `p` is allowed. -/
theorem term_ge (κ e : ℝ) (hκ : 0 < κ) (hκ2 : κ ≤ 2) (he : 0 < e) (p : EReal) (hp : (e : EReal) ≤ p) :
    ((-2 : ℝ) : EReal) ≤ p * (Ideal.log p * (κ : EReal)) := by
  induction p with
  | bot => exact absurd hp (by simp)
  | top =>
    have h1 : Ideal.log ⊤ = ⊤ := rfl
    rw [h1, EReal.top_mul_coe_of_pos hκ, EReal.top_mul_top]
    exact le_top
  | coe r =>
    have hr : e ≤ r := by exact_mod_cast hp
    have hr0 : 0 < r := lt_of_lt_of_le he hr
    have h1 : Ideal.log (r : EReal) = (Real.log r : EReal) := if_neg (not_le.mpr hr0)
    rw [h1, ← EReal.coe_mul, ← EReal.coe_mul, EReal.coe_le_coe_iff]
    have h2 : 1 - r⁻¹ ≤ Real.log r := Real.one_sub_inv_le_log_of_pos hr0
    have h3 : r * (1 - r⁻¹) ≤ r * Real.log r := mul_le_mul_of_nonneg_left h2 hr0.le
    have h4 : r * (1 - r⁻¹) = r - 1 := by field_simp
    nlinarith

/-- A sum of at most 64 terms, each at least −2, is at least −128. -/
theorem sum_ge {ι : Type} (s : Finset ι) (hs : s.card ≤ 64) (f : ι → EReal) (hf : ∀ i ∈ s, ((-2 : ℝ) : EReal) ≤ f i) :
    ((-128 : ℝ) : EReal) ≤ ∑ i ∈ s, f i := by
  have h1 : ∑ _i ∈ s, ((-2 : ℝ) : EReal) ≤ ∑ i ∈ s, f i := Finset.sum_le_sum hf
  have h2 : ∑ _i ∈ s, ((-2 : ℝ) : EReal) = ((s.card * (-2) : ℝ) : EReal) := by
    rw [Finset.sum_const, ← EReal.coe_nsmul, nsmul_eq_mul]
  have h3 : ((-128 : ℝ) : EReal) ≤ ((s.card * (-2) : ℝ) : EReal) := by
    rw [EReal.coe_le_coe_iff]
    have : (s.card : ℝ) ≤ 64 := by exact_mod_cast hs
    linarith
  exact h3.trans (h2 ▸ h1)

/-! ## The bit count -/

/-- The clipped entropy quotient is a real number between 0 and 0.22 when the sum it is made from is at least −128. -/
theorem ratio_real (S : EReal) (hS : ((-128 : ℝ) : EReal) ≤ S) :
    ∃ r : ℝ, 0 ≤ r ∧ r ≤ 22 / 100 ∧
      min ((1 : ℝ) : EReal) (max 0 (Ideal.div (Ideal.div (-S) ((100 : ℝ) : EReal)) ((6 : ℝ) : EReal))) = (r : EReal) := by
  rw [Ideal.div_coe (by norm_num), Ideal.div_coe (by norm_num)]
  induction S with
  | bot => exact absurd hS (by simp)
  | top =>
    refine ⟨0, le_refl _, by norm_num, ?_⟩
    rw [EReal.neg_top, EReal.bot_mul_coe_of_pos (by norm_num), EReal.bot_mul_coe_of_pos (by norm_num)]
    simp
  | coe s =>
    have hs : -128 ≤ s := by exact_mod_cast hS
    refine ⟨min 1 (max 0 (-s * (1 / 100) * (1 / 6))), le_min (by norm_num) (le_max_left _ _), ?_, ?_⟩
    · refine (min_le_right _ _).trans (max_le (by norm_num) ?_)
      linarith
    · rw [← EReal.coe_neg, ← EReal.coe_mul, ← EReal.coe_mul]
      norm_cast

/-- HALF THE LEVELS. For any entropy sum that is at least −128, half of two to the power of the reference's bit count is 64. -/
theorem half_eq (S : EReal) (hS : ((-128 : ℝ) : EReal) ≤ S) :
    Ideal.div (Ideal.pow (Ideal.ofBits .f32 0x40000000#32) (Ideal.liftRound Int.floor
      (Ideal.ofBits .f32 0x40FD70A4#32 + Ideal.ofBits .f32 0x3C23D70A#32 * (Ideal.ofBits .f32 0x40800000#32
        + min (Ideal.ofBits .f32 0x3F800000#32) (max (Ideal.ofBits .f32 0x00000000#32)
            (Ideal.div (Ideal.div (-S) (Ideal.ofBits .f32 0x42C80000#32)) (Ideal.ofBits .f32 0x40C00000#32)))
          * Ideal.ofBits .f32 0x41400000#32))))
      (Ideal.ofBits .f32 0x40000000#32) = ((64 : ℝ) : EReal) := by
  rw [word_one, word_two, word_four, word_six, word_twelve, word_hundred, word_base, word_weight, Ideal.ofBits_zero_f32]
  obtain ⟨r, h0, h1, hr⟩ := ratio_real S hS
  rw [hr, ← EReal.coe_mul, ← EReal.coe_add, ← EReal.coe_mul, ← EReal.coe_add]
  have hf : ⌊(16609444 / 2097152 + 10737418 / 1073741824 * (4 + r * 12) : ℝ)⌋ = 7 := by
    rw [Int.floor_eq_iff]
    constructor <;> norm_num <;> linarith
  have hl : Ideal.liftRound Int.floor ((16609444 / 2097152 + 10737418 / 1073741824 * (4 + r * 12) : ℝ) : EReal)
      = ((7 : ℝ) : EReal) := by
    show (((⌊(16609444 / 2097152 + 10737418 / 1073741824 * (4 + r * 12) : ℝ)⌋ : ℤ) : ℝ) : EReal) = _
    rw [hf]; norm_num
  have hp : Ideal.pow ((2 : ℝ) : EReal) ((7 : ℝ) : EReal) = ((128 : ℝ) : EReal) := by
    show ((Real.rpow 2 7 : ℝ) : EReal) = _
    congr 1
    have : (2 : ℝ) ^ (7 : ℝ) = 128 := by
      rw [show (7 : ℝ) = ((7 : ℕ) : ℝ) by norm_num, Real.rpow_natCast]; norm_num
    exact this
  rw [hl, hp, Ideal.div_coe (by norm_num), ← EReal.coe_mul]
  norm_num

end Cert.Levels

end
-- ==== Proof.Array.lean ====
/- What the kernel's output array holds. Each block written in the second sweep is the quantised input block, and the blocks make up the
   array, so every entry of the array is the quantised entry of the input; the last reshape gives it the argument's shape. -/
module

public import proofs.«01_k».proof.Proof.Sweep
public import proofs.«01_k».proof.Proof.Levels

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.KernelIdeal.Sweep
open Idealize.ShloMosaic.Pipeline (Dat)

/-- One entry `x` quantised against the greatest magnitude `g`: the step is `g / 63`; the entry is divided by the step, rounded to the
    nearest integer (a tie to the even one), held between −64 and 63 and multiplied by the step, or kept as it is when `g` is not
    positive; and the result is `x` plus the difference to `x`. -/
def quantised (g x : EReal) : EReal :=
  x + (Scalar.select (FloatOps.cmpf (F := Ideal) (φ := .f32) .ogt g (0 : EReal))
    (min ((63 : ℝ) : EReal) (max ((-64 : ℝ) : EReal)
      (Ideal.liftRound Ideal.roundHalfEven (Ideal.div x (Ideal.div g ((63 : ℝ) : EReal)))))
        * Ideal.div g ((63 : ℝ) : EReal)) x - x)

/-- What a second-sweep point stores, entry by entry. -/
theorem store_apply (x : FVec Ideal S512x4096 .f32) (g : EReal) (y : S512x4096.Idx) :
    k0_pay2 (F := Ideal) x g y = quantised g (x y) := by
  unfold k0_pay2 quantised
  rw [shapeCast_self, ← Levels.word_top, ← Levels.word_bottom, ← Ideal.ofBits_zero_f32]
  by_cases h : FloatOps.cmpf (F := Ideal) (φ := .f32) .ogt g (Ideal.ofBits .f32 0x00000000#32) = 1#1
  · have e : ∀ {α : Type} (a b : α), Scalar.select (FloatOps.cmpf (F := Ideal) (φ := .f32) .ogt g (Ideal.ofBits .f32 0x00000000#32)) a b = a :=
      fun a b => if_pos h
    rw [e]
    exact congrArg (fun z : EReal => x y + (z - x y)) (congrFun (e _ _) y)
  · have e : ∀ {α : Type} (a b : α), Scalar.select (FloatOps.cmpf (F := Ideal) (φ := .f32) .ogt g (Ideal.ofBits .f32 0x00000000#32)) a b = b :=
      fun a b => if_neg h
    rw [e]
    exact congrArg (fun z : EReal => x y + (z - x y)) (congrFun (e _ _) y)

variable (m : (ℓ : Loc nD τ sig) → Buf (Elt Ideal) ℓ) (ρ : Dev nD → PrngReg)

/-- The stacked rows quantised entry by entry: what the kernel's output array is shown to hold. -/
abbrev outRows (c : Dev nD) : Buf (Elt Ideal) ((c : Thread nD τ).loc main_v1) := fun i => quantised (greatest m c) (rows m c i)

/-- A block quantised entry by entry. -/
def quantisedBlock (g : EReal) (x : FVec Ideal S512x4096 .f32) : Vec Ideal S512x4096 .f32 := fun y => quantised g (x y)

/-- What a second-sweep point stores, as a block. -/
theorem store_eq (x : FVec Ideal S512x4096 .f32) (g : EReal) : k0_pay2 (F := Ideal) x g = quantisedBlock g x :=
  funext fun y => store_apply x g y

/-- What a second-sweep point leaves for writing back: its input block quantised entry by entry. -/
theorem stored (c : Dev nD) (t : Fin cfg0.N) (ht : 32 ≤ t.val) :
    (outsAt0 (F := Ideal) m c t.val t.isLt).1 = quantisedBlock (greatest m c) (blockIn m c t) := by
  have hN : t.val < 64 := lt_of_lt_of_eq t.isLt N_0
  have e := outsAt0_C (F := Ideal) m c t (by omega) (by omega) ht
  rw [e]
  dsimp only
  rw [output_block, cell_kept m c (t.val - 1) _ (by omega)]
  unfold greatest blockIn
  rw [store_eq]

/-- A second-sweep point writes back its block of the quantised rows. -/
theorem written (c : Dev nD) (t : Fin cfg0.N) (hf : (cfg0.win 1).flush t = true) :
    (dats (F := Ideal) m 0 c).flushed 1 t = ((cfg0.win 1).blk t).view.read (Elt Ideal) (outRows m c) := by
  have ht : 32 ≤ t.val := (Blocks.out_flush t).mp hf
  show (cfg0.win 1).cut (grid0.coords t) ((dats (F := Ideal) m 0 c).after 1 t) = _
  rw [after0_1, stored m c t ht]
  funext y
  rw [View.read_apply]
  exact congrArg (fun i : S16384x4096.Idx => quantised (greatest m c) (rows m c i)) (Blocks.same_place t ht y)

/-- THE OUTPUT ARRAY: after the two sweeps it holds the quantised rows. -/
theorem final (c : Dev nD) : (dats (F := Ideal) m 0 c).arrAt 1 cfg0.N = outRows m c :=
  (dats (F := Ideal) m 0 c).arrAt_eq_of_cover 1 (outRows m c) (written m c) Blocks.out_cover

/-- The array the kernel works on is the argument reshaped. -/
theorem rows_eq (c : Dev nD) :
    rows m c = shapeCast S16384x4096 (m ((c : Thread nD τ).loc main_arg0)) shapeCasts_S2x8192x4096_S16384x4096 := by
  show V m c main_v0 = _
  entry_read
  rfl

/-- The result in the argument's shape: the argument quantised entry by entry. -/
abbrev result (c : Dev nD) : Buf (Elt Ideal) ((c : Thread nD τ).loc main_v2) := fun i =>
  quantised (greatest m c) (m ((c : Thread nD τ).loc main_arg0) i)

/-- Reshaping the quantised rows back gives the argument quantised entry by entry. -/
theorem reshape_back (c : Dev nD) :
    shapeCast S2x8192x4096 (outRows m c) shapeCasts_S16384x4096_S2x8192x4096 = result m c := by
  funext i
  have e : shapeCast S2x8192x4096 (rows m c) shapeCasts_S16384x4096_S2x8192x4096 i = m ((c : Thread nD τ).loc main_arg0) i := by
    rw [rows_eq]
    exact congrArg (m ((c : Thread nD τ).loc main_arg0))
      ((Shape.reshapeEquiv_reshapeEquiv _ _ _).trans (Shape.reshapeEquiv_self _ _))
  exact congrArg (quantised (greatest m c)) e

/-- What the line after the kernel leaves in the result buffer. -/
theorem tail (c : Dev nD) :
    Pipeline.afterTail₀ cfgs (dats (F := Ideal) m) 0 (V0 m) [hostOps1] c main_v2 = result m c := by
  unfold Pipeline.afterTail₀
  rw [List.flatten_cons, List.flatten_nil, List.append_nil]
  unfold hostOps1
  after_results
  have h1 : Pipeline.withArrays (cfgs 0).spec c (V0 m c) (fun w => (dats (F := Ideal) m 0 c).arrAt w (cfgs 0).N)
      (Proc.devRef .tc main_v1) = outRows m c :=
    (Pipeline.withArrays_arr spec0 (by decide) c _ _ 1).trans (final m c)
  rw [h1]
  exact reshape_back m c

/-- THE KERNEL'S RUN: it ends with the argument quantised entry by entry in the result buffer, the argument itself unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0) :=
  (θ_run defs _ _).mono (fun _ h c =>
    ⟨((h.1 c).2 main_v2 (Pipeline.mem_restRefs_of main_v2 (by decide) (by decide))).trans (tail m c), h.2 c⟩)
    (θ_run_and (run_main m ρ) (unchanged m ρ))

end Cert.KernelIdeal.Array

end
-- ==== Proof.Reference.lean ====
/- What the reference computes. Half its number of levels is 64 for every histogram, so its clip runs from −64 to 63 and its step is
   the greatest magnitude divided by 63; its result is the argument quantised entry by entry, in the words of the kernel's side. -/
module

public import proofs.«01_k».proof.Proof.Gen.ReferenceIdeal.Run
public import proofs.«01_k».proof.Proof.Maximum
public import proofs.«01_k».proof.Proof.Array

@[expose] public section

set_option maxRecDepth 16384

noncomputable section

namespace Cert.ReferenceIdeal.Reading

open Idealize.ShloMosaic Idealize.ShloMosaic.TcCoe Idealize.SL.Sem Idealize.ShloMosaic.StableHlo
open Cert.ReferenceIdeal Cert.ReferenceIdeal.Gen Cert.ReferenceIdeal.Value
open scoped BigOperators

/-! ## The number of levels, for any probabilities -/

section Levels

variable (p : FVec Ideal S64 .f32)

/-- A probability clipped from below is at least the clip. -/
theorem clip_le (q : FVec Ideal S64 .f32) (i : S64.Idx) :
    ((11258999 / 1125899906842624 : ℝ) : EReal)
      ≤ maximumf (broadcastInDim S64 ![] bcast_S_S64 (id (constant (F := Ideal) S_ .f32 0x322BCC77#32))) q i := by
  rw [← Levels.word_clip]
  exact le_max_left _ _

/-- The sum whose negative is the entropy: over the 64 bins, the probability times its logarithm to base 2. -/
def entropySum (j : S_.Idx) : EReal := ∑ i ∈ Finset.univ.filter (fun i => reducesTo_S64_S_d0.drop i = j),
  p i * (Ideal.log (p i) * Ideal.ofBits .f32 0x3FB8AA3B#32)

/-- The entropy sum is at least −128 when no probability is below the clip. -/
theorem entropySum_ge (hp : ∀ i, ((11258999 / 1125899906842624 : ℝ) : EReal) ≤ p i) (j : S_.Idx) :
    ((-128 : ℝ) : EReal) ≤ entropySum p j := by
  unfold entropySum
  refine Levels.sum_ge _ ((Finset.card_le_univ _).trans (le_of_eq ?_)) _ fun i _ => ?_
  · rw [Shape.card_idx]; rfl
  · rw [Levels.word_invLn2]
    exact Levels.term_ge _ _ (by norm_num) (by norm_num) (by norm_num) _ (hp i)

/-- The reference's entropy sum, read at its index. -/
theorem entropySum_eq (j : S_.Idx) :
    Host.reduceAdd (F := Ideal) (mulf p (mulf (Host.log p) (broadcastInDim S64 ![] bcast_S_S64 (constant S_ .f32 0x3FB8AA3B#32))))
      (constant S_ .f32 0x00000000#32) reducesTo_S64_S_d0 h_S_ j = entropySum p j := by
  refine (congrArg (· + entropySum p j) Ideal.ofBits_zero_f32).trans ?_
  exact zero_add _

/-- The reference's bit count and what follows it, read at its index, for any entropy. -/
theorem levels_apply (e : FVec Ideal S_ .f32) (j : S_.Idx) :
    Host.divf (Host.powf (constant S_ .f32 0x40000000#32) (Host.floor (addf (constant S_ .f32 0x40FD70A4#32) (mulf (constant S_ .f32 0x3C23D70A#32) (addf (constant S_ .f32 0x40800000#32) (mulf (minimumf (id (constant S_ .f32 0x3F800000#32)) (maximumf (id (constant S_ .f32 0x00000000#32)) (Host.divf (Host.divf (Host.negf e) (constant S_ .f32 0x42C80000#32)) (constant S_ .f32 0x40C00000#32)))) (constant S_ .f32 0x41400000#32))))))) (constant S_ .f32 0x40000000#32) j
    = Ideal.div (Ideal.pow (Ideal.ofBits .f32 0x40000000#32) (Ideal.liftRound Int.floor
      (Ideal.ofBits .f32 0x40FD70A4#32 + Ideal.ofBits .f32 0x3C23D70A#32 * (Ideal.ofBits .f32 0x40800000#32
        + min (Ideal.ofBits .f32 0x3F800000#32) (max (Ideal.ofBits .f32 0x00000000#32)
            (Ideal.div (Ideal.div (-(e j)) (Ideal.ofBits .f32 0x42C80000#32)) (Ideal.ofBits .f32 0x40C00000#32)))
          * Ideal.ofBits .f32 0x41400000#32)))) (Ideal.ofBits .f32 0x40000000#32) := rfl

end Levels

variable (W : Valuation τ sig (Elt Ideal))

/-- HALF THE LEVELS: the reference's number is 64. -/
theorem half : res_main_v51 W = (fun _ => ((64 : ℝ) : EReal) : FVec Ideal S_ .f32) := by
  funext j
  unfold res_main_v51
  refine (levels_apply _ j).trans ?_
  rw [entropySum_eq (res_main_v35 W) j]
  refine Levels.half_eq _ (entropySum_ge _ (fun i => ?_) j)
  unfold res_main_v35
  exact clip_le _ i

/-! ## The greatest magnitude -/

/-- Reducing an array by maximum, from minus infinity, to a number: a bound lies above the result exactly when it lies above every
    entry. -/
theorem reduce_le (x : FVec Ideal S2x8192x4096 .f32) (j : S_.Idx) (b : EReal) :
    Host.reduce (FloatOps.maximumf (F := Ideal)) x (constant S_ .f32 0xFF800000#32) reducesTo_S2x8192x4096_S_d0_1_2 h_S_ j ≤ b
      ↔ ∀ i, x i ≤ b := by
  rw [Host.reduce_eq_fold]
  have hall : (Finset.univ.filter fun i => reducesTo_S2x8192x4096_S_d0_1_2.drop i = j) = Finset.univ :=
    Finset.filter_true_of_mem fun i _ => funext fun a => a.elim0
  rw [hall]
  refine (Finset.fold_max_le b).trans ?_
  have e : (constant (F := Ideal) S_ .f32 0xFF800000#32 (Shape.Idx.first h_S_) : EReal) = ⊥ := KernelIdeal.Maximum.word_neg_inf
  rw [e]
  simp

/-- A number has one index. -/
theorem index_eq (i j : S_.Idx) : i = j := funext fun a => a.elim0

/-- What the reference takes for the greatest magnitude, as an extended real. -/
def greatest : EReal := res_main_v53 W (Shape.Idx.first h_S_)

/-- The greatest magnitude is that number at its one index. -/
theorem greatest_eq : res_main_v53 W = (fun _ => greatest W : FVec Ideal S_ .f32) :=
  funext fun j => congrArg (res_main_v53 W) (index_eq j _)

/-- A bound lies above the reference's greatest magnitude exactly when it lies above the magnitude of every entry of the argument. -/
theorem greatest_le (X : S2x8192x4096.Idx → EReal) (hX : W (Proc.devRef .tc main_arg0) = X) (b : EReal) :
    greatest W ≤ b ↔ ∀ i, max (X i) (-(X i)) ≤ b := by
  unfold greatest res_main_v53
  rw [hX]
  exact reduce_le (Host.absf (F := Ideal) (φ := .f32) X) _ b

/-! ## The result -/

/-- The reference's last lines at an index, from a greatest magnitude `g` and 64 levels on each side: the entry quantised. -/
theorem quantise_apply (X : FVec Ideal S2x8192x4096 .f32) (g : EReal) (h M : FVec Ideal S_ .f32)
    (hh : h = fun _ => ((64 : ℝ) : EReal)) (hM : M = fun _ => g) (i : S2x8192x4096.Idx) :
    addf X (subf (select (broadcastInDim S2x8192x4096 ![] bcast_S_S2x8192x4096 (cmpf .ogt M (constant S_ .f32 0x00000000#32)))
      (mulf (minimumf (broadcastInDim S2x8192x4096 ![] bcast_S_S2x8192x4096 (subf h (constant S_ .f32 0x3F800000#32)))
        (maximumf (broadcastInDim S2x8192x4096 ![] bcast_S_S2x8192x4096 (Host.negf h))
          (Host.roundeven (Host.divf X (broadcastInDim S2x8192x4096 ![] bcast_S_S2x8192x4096
            (Host.divf M (subf h (constant S_ .f32 0x3F800000#32))))))))
        (broadcastInDim S2x8192x4096 ![] bcast_S_S2x8192x4096 (Host.divf M (subf h (constant S_ .f32 0x3F800000#32))))) X) X) i
      = KernelIdeal.Array.quantised g (X i) := by
  subst hh hM
  have e63 : ((64 : ℝ) : EReal) - Ideal.ofBits .f32 0x3F800000#32 = ((63 : ℝ) : EReal) := by
    rw [Levels.word_one, ← EReal.coe_sub]; norm_num
  have e64 : -((64 : ℝ) : EReal) = ((-64 : ℝ) : EReal) := by rw [← EReal.coe_neg]
  show X i + (Scalar.select (FloatOps.cmpf (F := Ideal) (φ := .f32) .ogt g (Ideal.ofBits .f32 0x00000000#32))
    (min (((64 : ℝ) : EReal) - Ideal.ofBits .f32 0x3F800000#32) (max (-((64 : ℝ) : EReal))
      (Ideal.liftRound Ideal.roundHalfEven (Ideal.div (X i) (Ideal.div g (((64 : ℝ) : EReal) - Ideal.ofBits .f32 0x3F800000#32)))))
        * Ideal.div g (((64 : ℝ) : EReal) - Ideal.ofBits .f32 0x3F800000#32)) (X i) - X i) = _
  rw [e63, e64, Ideal.ofBits_zero_f32]
  rfl

variable (m : (ℓ : Loc nD τ sig) → Buf (Elt Ideal) ℓ) (ρ : Dev nD → PrngReg)

/-- The argument as launched, as an array of extended reals. -/
abbrev arg (c : Dev nD) : S2x8192x4096.Idx → EReal := m ((c.tc : Thread nD τ).loc main_arg0)

/-- The reference's result: the argument quantised entry by entry. -/
abbrev result (c : Dev nD) : Buf (Elt Ideal) ((c.tc : Thread nD τ).loc main_v67) := fun i =>
  KernelIdeal.Array.quantised (greatest (launchContents m c)) (arg m c i)

/-- THE REFERENCE'S RUN: it ends with the argument quantised entry by entry in the result buffer, the argument itself unchanged. -/
theorem run_result : θ_run defs (onTc (τ := τ) (main (F := Ideal))) ⟨m, fun _ => 0, ρ⟩ fun r => ∀ c : Dev nD,
      r.2.mem ((c.tc : Thread nD τ).loc main_v67) = result m c
      ∧ r.2.mem ((c.tc : Thread nD τ).loc main_arg0) = m ((c.tc : Thread nD τ).loc main_arg0) := by
  refine (θ_run defs _ _).mono (fun r h c => ⟨(h c).1.trans ?_, (h c).2⟩) (Value.run (F := Ideal) m ρ)
  unfold res_main_v55
  exact funext fun i => quantise_apply (arg m c) (greatest (launchContents m c)) (res_main_v51 (launchContents m c))
    (res_main_v53 (launchContents m c)) (half _) (greatest_eq _) i

end Cert.ReferenceIdeal.Reading

end
-- ==== Proof.Equation.lean ====
/- The equation of the two programs. From equal arguments the kernel's running maximum and the reference's single maximum are the
   same extended real, since the same bounds lie above both; so both results are the argument quantised by that one number. -/
module

public import proofs.«01_k».proof.Proof.Reference

@[expose] public section

set_option maxRecDepth 16384

noncomputable section

namespace Cert.Equation

open Idealize.ShloMosaic Idealize.ShloMosaic.TcCoe Idealize.SL.Sem Idealize.ShloMosaic.StableHlo

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The kernel's argument as launched, as an array of extended reals. -/
abbrev arg (c : Dev KernelIdeal.nD) : KernelIdeal.S2x8192x4096.Idx → EReal :=
  m ((c.tc : Thread KernelIdeal.nD KernelIdeal.τ).loc KernelIdeal.main_arg0)

/-- A bound lies above the kernel's greatest magnitude exactly when it lies above the magnitude of every entry of the argument. -/
theorem kernel_greatest_le (c : Dev KernelIdeal.nD) (b : EReal) :
    KernelIdeal.Sweep.greatest m c ≤ b ↔ ∀ i, max (arg m c i) (-(arg m c i)) ≤ b := by
  rw [KernelIdeal.Sweep.greatest_le, KernelIdeal.Array.rows_eq]
  exact KernelIdeal.Maximum.forall_shapeCast (arg m c) _ fun a : EReal => max a (-a) ≤ b

variable (hag : ∀ c : Dev KernelIdeal.nD,
  m' ((c.tc : Thread ReferenceIdeal.nD ReferenceIdeal.τ).loc ReferenceIdeal.main_arg0)
    = m ((c.tc : Thread KernelIdeal.nD KernelIdeal.τ).loc KernelIdeal.main_arg0))
include hag

/-- From equal arguments the two greatest magnitudes are equal. -/
theorem greatest_eq (c : Dev KernelIdeal.nD) :
    ReferenceIdeal.Reading.greatest (launchContents m' c) = KernelIdeal.Sweep.greatest m c :=
  eq_of_forall_ge_iff fun b =>
    (ReferenceIdeal.Reading.greatest_le _ (arg m c) (hag c) b).trans (kernel_greatest_le m c b).symm

/-- From equal arguments the two results are equal. -/
theorem result_eq (c : Dev KernelIdeal.nD) : ReferenceIdeal.Reading.result m' c = KernelIdeal.Array.result m c := by
  unfold ReferenceIdeal.Reading.result KernelIdeal.Array.result
  funext i
  rw [greatest_eq m m' hag c]
  exact congrArg (KernelIdeal.Array.quantised (KernelIdeal.Sweep.greatest m c)) (congrFun (hag c) i)

end Cert.Equation

end
-- ==== Proof.lean ====
/- The five claims: the kernel runs and leaves its argument and every semaphore as they were, on words and on extended reals; so does
   the reference; the kernel's reading on extended reals is its own text; and from equal arguments both programs end with equal
   results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Equation
public import Idealize.ShloMosaic.Adequacy
public import Idealize.ShloMosaic.Lib.Quiescent
public import Idealize.ShloMosaic.Init

@[expose] public section

noncomputable section

namespace Cert.Proof

open Idealize.ShloMosaic Idealize.SL.Sem

/-- The kernel on words runs, its argument ends unchanged, and every semaphore ends at zero. -/
theorem kernel_frame : quiescent_Kernel (hKernel := Kernel.Gen.facts) := fun m ρ _ => Kernel.Gen.frame m ρ

/-- The kernel on extended reals runs, its argument ends unchanged, and every semaphore ends at zero. -/
theorem ideal_frame : quiescent_KernelIdeal (hKernelIdeal := KernelIdeal.Gen.facts) := fun m ρ _ => KernelIdeal.Gen.frame m ρ

/-- The reference on extended reals runs, its argument ends unchanged, and every semaphore ends at zero. -/
theorem reference_frame : quiescent_ReferenceIdeal (hReferenceIdeal := ReferenceIdeal.Gen.facts) := fun m ρ _ =>
  (θ_run ReferenceIdeal.defs _ _).mono (fun r h => ⟨fun c => (h c).2, sem_eq_zero_of_no_sems (by decide) r.2⟩)
    (ReferenceIdeal.Value.run (F := Ideal) m ρ)

/-- From equal arguments both programs end with the argument quantised entry by entry, in which the step is the greatest magnitude
    divided by 63. -/
theorem equal_results :
    algebraic_KernelIdeal_ReferenceIdeal (hKernelIdeal := KernelIdeal.Gen.facts) (hReferenceIdeal := ReferenceIdeal.Gen.facts) :=
  fun m ρ m' ρ' _ hag => ⟨KernelIdeal.Array.result m, KernelIdeal.Array.run m ρ,
    (θ_run ReferenceIdeal.defs _ _).mono (fun _ h c => ⟨(h c).1.trans (Equation.result_eq m m' hag c), (h c).2⟩)
      (ReferenceIdeal.Reading.run_result m' ρ')⟩

/-- Everything stated for this kernel holds. -/
theorem claim : Cert.Claim := ⟨Kernel.Gen.facts, KernelIdeal.Gen.facts, ReferenceIdeal.Gen.facts,
  kernel_frame, ideal_frame, reference_frame, trivial, equal_results⟩

end Cert.Proof

end
